-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x512 : Shape := ⟨2, ![16384, 512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S16x128 : Shape := ⟨2, ![16, 128]⟩
abbrev S16 : Shape := ⟨1, ![16]⟩
abbrev S16x512 : Shape := ⟨2, ![16, 512]⟩
abbrev S512 : Shape := ⟨1, ![512]⟩
abbrev S16384 : Shape := ⟨1, ![16384]⟩
abbrev S_ : Shape := ⟨0, ![]⟩
abbrev S8x1x2048 : Shape := ⟨3, ![8, 1, 2048]⟩
abbrev S1x512 : Shape := ⟨2, ![1, 512]⟩
abbrev S17x512 : Shape := ⟨2, ![17, 512]⟩
abbrev S17x1024 : Shape := ⟨2, ![17, 1024]⟩
abbrev S1x256 : Shape := ⟨2, ![1, 256]⟩
abbrev S1x128 : Shape := ⟨2, ![1, 128]⟩
abbrev S1x16 : Shape := ⟨2, ![1, 16]⟩
abbrev S16384x16 : Shape := ⟨2, ![16384, 16]⟩
abbrev S2048x512 : Shape := ⟨2, ![2048, 512]⟩
abbrev S1x1x2048 : Shape := ⟨3, ![1, 1, 2048]⟩
abbrev S2048x16 : Shape := ⟨2, ![2048, 16]⟩
abbrev S2048 : Shape := ⟨1, ![2048]⟩
abbrev S2048x1 : Shape := ⟨2, ![2048, 1]⟩
abbrev S1x2048 : Shape := ⟨2, ![1, 2048]⟩
abbrev S17x2048 : Shape := ⟨2, ![17, 2048]⟩
abbrev S2048x1024 : Shape := ⟨2, ![2048, 1024]⟩
abbrev S2048x256 : Shape := ⟨2, ![2048, 256]⟩
abbrev S2048x128 : Shape := ⟨2, ![2048, 128]⟩

abbrev nBuf : Space → Nat
  | .hbm => 34
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S256x512, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S16x128, .f32⟩
  | .hbm, ⟨6, _⟩ => ⟨S16, .f32⟩
  | .hbm, ⟨7, _⟩ => ⟨S16x512, .f32⟩
  | .hbm, ⟨8, _⟩ => ⟨S16x512, .f32⟩
  | .hbm, ⟨9, _⟩ => ⟨S512, .f32⟩
  | .hbm, ⟨10, _⟩ => ⟨S512, .f32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S16384, .i1⟩
  | .hbm, ⟨19, _⟩ => ⟨S_, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S8x1x2048, .i32⟩
  | .hbm, ⟨24, _⟩ => ⟨S1x512, .f32⟩
  | .hbm, ⟨25, _⟩ => ⟨S17x512, .f32⟩
  | .hbm, ⟨26, _⟩ => ⟨S1x512, .f32⟩
  | .hbm, ⟨27, _⟩ => ⟨S17x512, .f32⟩
  | .hbm, ⟨28, _⟩ => ⟨S17x1024, .f32⟩
  | .hbm, ⟨29, _⟩ => ⟨S1x256, .f32⟩
  | .hbm, ⟨30, _⟩ => ⟨S1x128, .f32⟩
  | .hbm, ⟨31, _⟩ => ⟨S1x16, .f32⟩
  | .hbm, ⟨32, _⟩ => ⟨S16384x512, .f32⟩
  | .hbm, ⟨33, _⟩ => ⟨S16384x16, .f32⟩
  | .local _ .vmem, ⟨0, _⟩ => ⟨S2048x512, .f32⟩
  | .local _ .vmem, ⟨1, _⟩ => ⟨S2048x512, .f32⟩
  | .local _ .vmem, ⟨2, _⟩ => ⟨S256x512, .f32⟩
  | .local _ .vmem, ⟨3, _⟩ => ⟨S1x256, .f32⟩
  | .local _ .vmem, ⟨4, _⟩ => ⟨S128x256, .f32⟩
  | .local _ .vmem, ⟨5, _⟩ => ⟨S1x128, .f32⟩
  | .local _ .vmem, ⟨6, _⟩ => ⟨S16x128, .f32⟩
  | .local _ .vmem, ⟨7, _⟩ => ⟨S1x16, .f32⟩
  | .local _ .vmem, ⟨8, _⟩ => ⟨S17x1024, .f32⟩
  | .local _ .vmem, ⟨9, _⟩ => ⟨S1x1x2048, .i32⟩
  | .local _ .vmem, ⟨10, _⟩ => ⟨S1x1x2048, .i32⟩
  | .local _ .vmem, ⟨11, _⟩ => ⟨S2048x512, .f32⟩
  | .local _ .vmem, ⟨12, _⟩ => ⟨S2048x512, .f32⟩
  | .local _ .vmem, ⟨13, _⟩ => ⟨S2048x16, .f32⟩
  | .local _ .vmem, ⟨14, _⟩ => ⟨S2048x16, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v0_0 : Ref sig .tc := ⟨.hbm, 32, rfl⟩
abbrev main_v0_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S17x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S16384x512 : Shape := ⟨2, ![16384, 512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S16x128 : Shape := ⟨2, ![16, 128]⟩
abbrev S16 : Shape := ⟨1, ![16]⟩
abbrev S16x512 : Shape := ⟨2, ![16, 512]⟩
abbrev S512 : Shape := ⟨1, ![512]⟩
abbrev S16384 : Shape := ⟨1, ![16384]⟩
abbrev S512x256 : Shape := ⟨2, ![512, 256]⟩
abbrev S16384x256 : Shape := ⟨2, ![16384, 256]⟩
abbrev S1x256 : Shape := ⟨2, ![1, 256]⟩
abbrev S_ : Shape := ⟨0, ![]⟩
abbrev S256x128 : Shape := ⟨2, ![256, 128]⟩
abbrev S16384x128 : Shape := ⟨2, ![16384, 128]⟩
abbrev S1x128 : Shape := ⟨2, ![1, 128]⟩
abbrev S128x16 : Shape := ⟨2, ![128, 16]⟩
abbrev S16384x16 : Shape := ⟨2, ![16384, 16]⟩
abbrev S1x16 : Shape := ⟨2, ![1, 16]⟩
abbrev S16384x1 : Shape := ⟨2, ![16384, 1]⟩
abbrev S1x512 : Shape := ⟨2, ![1, 512]⟩

abbrev nBuf : Space → Nat
  | .hbm => 115
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S256x512, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S16x128, .f32⟩
  | .hbm, ⟨6, _⟩ => ⟨S16, .f32⟩
  | .hbm, ⟨7, _⟩ => ⟨S16x512, .f32⟩
  | .hbm, ⟨8, _⟩ => ⟨S16x512, .f32⟩
  | .hbm, ⟨9, _⟩ => ⟨S512, .f32⟩
  | .hbm, ⟨10, _⟩ => ⟨S512, .f32⟩
  | .hbm, ⟨11, _⟩ => ⟨S16384, .i32⟩
  | .hbm, ⟨12, _⟩ => ⟨S512x256, .f32⟩
  | .hbm, ⟨13, _⟩ => ⟨S16384x256, .f32⟩
  | .hbm, ⟨14, _⟩ => ⟨S1x256, .f32⟩
  | .hbm, ⟨15, _⟩ => ⟨S16384x256, .f32⟩
  | .hbm, ⟨16, _⟩ => ⟨S16384x256, .f32⟩
  | .hbm, ⟨17, _⟩ => ⟨S_, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S_, .f32⟩
  | .hbm, ⟨22, _⟩ => ⟨S_, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S256x128, .f32⟩
  | .hbm, ⟨28, _⟩ => ⟨S16384x128, .f32⟩
  | .hbm, ⟨29, _⟩ => ⟨S1x128, .f32⟩
  | .hbm, ⟨30, _⟩ => ⟨S16384x128, .f32⟩
  | .hbm, ⟨31, _⟩ => ⟨S16384x128, .f32⟩
  | .hbm, ⟨32, _⟩ => ⟨S_, .f32⟩
  | .hbm, ⟨33, _⟩ => ⟨S16384x128, .f32⟩
  | .hbm, ⟨34, _⟩ => ⟨S16384x128, .f32⟩
  | .hbm, ⟨35, _⟩ => ⟨S16384x128, .f32⟩
  | .hbm, ⟨36, _⟩ => ⟨S_, .f32⟩
  | .hbm, ⟨37, _⟩ => ⟨S_, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S128x16, .f32⟩
  | .hbm, ⟨43, _⟩ => ⟨S16384x16, .f32⟩
  | .hbm, ⟨44, _⟩ => ⟨S1x16, .f32⟩
  | .hbm, ⟨45, _⟩ => ⟨S16384x16, .f32⟩
  | .hbm, ⟨46, _⟩ => ⟨S16384x16, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x512, .f32⟩
  | .hbm, ⟨69, _⟩ => ⟨S16384x512, .f32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i1⟩
  | .hbm, ⟨76, _⟩ => ⟨S16384, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S_, .i32⟩
  | .hbm, ⟨83, _⟩ => ⟨S16384, .i32⟩
  | .hbm, ⟨84, _⟩ => ⟨S16384, .i32⟩
  | .hbm, ⟨85, _⟩ => ⟨S16384x1, .i1⟩
  | .hbm, ⟨86, _⟩ => ⟨S_, .i32⟩
  | .hbm, ⟨87, _⟩ => ⟨S16384, .i32⟩
  | .hbm, ⟨88, _⟩ => ⟨S16384, .i1⟩
  | .hbm, ⟨89, _⟩ => ⟨S_, .i32⟩
  | .hbm, ⟨90, _⟩ => ⟨S16384, .i32⟩
  | .hbm, ⟨91, _⟩ => ⟨S16384, .i32⟩
  | .hbm, ⟨92, _⟩ => ⟨S16384, .i32⟩
  | .hbm, ⟨93, _⟩ => ⟨S16384x1, .i32⟩
  | .hbm, ⟨94, _⟩ => ⟨S16384x512, .f32⟩
  | .hbm, ⟨95, _⟩ => ⟨S1x512, .f32⟩
  | .hbm, ⟨96, _⟩ => ⟨S16384x512, .i1⟩
  | .hbm, ⟨97, _⟩ => ⟨S16384x512, .f32⟩
  | .hbm, ⟨98, _⟩ => ⟨S16384x512, .f32⟩
  | .hbm, ⟨99, _⟩ => ⟨S16384x1, .i1⟩
  | .hbm, ⟨100, _⟩ => ⟨S_, .i32⟩
  | .hbm, ⟨101, _⟩ => ⟨S16384, .i32⟩
  | .hbm, ⟨102, _⟩ => ⟨S16384, .i1⟩
  | .hbm, ⟨103, _⟩ => ⟨S_, .i32⟩
  | .hbm, ⟨104, _⟩ => ⟨S16384, .i32⟩
  | .hbm, ⟨105, _⟩ => ⟨S16384, .i32⟩
  | .hbm, ⟨106, _⟩ => ⟨S16384, .i32⟩
  | .hbm, ⟨107, _⟩ => ⟨S16384x1, .i32⟩
  | .hbm, ⟨108, _⟩ => ⟨S16384x512, .f32⟩
  | .hbm, ⟨109, _⟩ => ⟨S1x512, .f32⟩
  | .hbm, ⟨110, _⟩ => ⟨S16384x512, .i1⟩
  | .hbm, ⟨111, _⟩ => ⟨S16384x512, .f32⟩
  | .hbm, ⟨112, _⟩ => ⟨S16384x512, .f32⟩
  | .hbm, ⟨113, _⟩ => ⟨S16384x512, .f32⟩
  | .hbm, ⟨114, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_c_10 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call1_v0 : Ref sig .tc := ⟨.hbm, 96, rfl⟩
abbrev main_call1_v1 : Ref sig .tc := ⟨.hbm, 97, rfl⟩
abbrev main_v64 : Ref sig .tc := ⟨.hbm, 98, rfl⟩
abbrev main_v65 : Ref sig .tc := ⟨.hbm, 99, rfl⟩
abbrev main_c_13 : Ref sig .tc := ⟨.hbm, 100, rfl⟩
abbrev main_v66 : Ref sig .tc := ⟨.hbm, 101, rfl⟩
abbrev main_v67 : Ref sig .tc := ⟨.hbm, 102, rfl⟩
abbrev main_c_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call2_v0 : Ref sig .tc := ⟨.hbm, 110, rfl⟩
abbrev main_call2_v1 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== Proof.Consts.lean ====
/- UNTRUSTED — the float constants the two programs spell, as the extended reals their patterns denote at `Ideal`. -/
module

public import Idealize.ShloMosaic.PureOps.Ideal

@[expose] public section

noncomputable section

namespace Cert.Consts

open Idealize.ShloMosaic

/-- The row length, `512.0`, denotes the real 512. -/
theorem ofBits_512 : Ideal.ofBits .f32 0x44000000#32 = ((512 : ℝ) : EReal) := by
  simp [Ideal.ofBits, Ideal.ieee, -EReal.coe_mul]; norm_num

/-- `2.0`, which the reference takes the root of, denotes the real 2. -/
theorem ofBits_two : Ideal.ofBits .f32 0x40000000#32 = ((2 : ℝ) : EReal) := by
  simp [Ideal.ofBits, Ideal.ieee, -EReal.coe_mul]; norm_num

/-- The epsilon under the norm's root, the f32 nearest to `1e-5`, denotes a positive real. -/
theorem ofBits_eps : ∃ e : ℝ, 0 < e ∧ Ideal.ofBits .f32 0x3727C5AC#32 = (e : EReal) := by
  refine ⟨10995116 * 2 ^ (-40 : ℤ), ?_, ?_⟩
  · norm_num
  · simp [Ideal.ofBits, Ideal.ieee, -EReal.coe_mul]

end Cert.Consts

end
-- ==== Proof.Model.lean ====
/- UNTRUSTED — one row of the two results, as functions of extended reals, and the two scalar equations the comparison rests
   on: multiplying by a reciprocal square root is dividing by the square root, and the gelu written with `erf` is the gelu
   written with `erfc`. Nothing here names a program. -/
module

public import proofs.«01_k».proof.Proof.Consts
public import Idealize.ShloMosaic.PureOps.Ideal.Laws

@[expose] public section

noncomputable section

namespace Cert.Model

open Idealize.ShloMosaic

/-! ## The norm of one row -/

/-- The mean of a row of 512. -/
def mean (x : Fin 512 → EReal) : EReal := Ideal.div (∑ k, x k) (Ideal.ofBits .f32 0x44000000#32)

/-- The row less its mean. -/
def centred (x : Fin 512 → EReal) (j : Fin 512) : EReal := x j - mean x

/-- The mean of the squares of the row less its mean, with epsilon added. -/
def spread (x : Fin 512 → EReal) : EReal :=
  Ideal.div (∑ k, centred x k * centred x k) (Ideal.ofBits .f32 0x44000000#32) + Ideal.ofBits .f32 0x3727C5AC#32

/-- The normalized row. -/
def xhat (x : Fin 512 → EReal) (j : Fin 512) : EReal := Ideal.div (centred x j) (Ideal.sqrt (spread x))

/-- A square of an extended real is not negative. -/
theorem mul_self_nonneg (a : EReal) : 0 ≤ a * a := by
  induction a with
  | bot => simp
  | top => simp
  | coe r => rw [← EReal.coe_mul]; exact EReal.coe_nonneg.2 (_root_.mul_self_nonneg r)

/-- The spread of any row is positive, infinite entries included. -/
theorem spread_pos (x : Fin 512 → EReal) : 0 < spread x := by
  obtain ⟨e, he, hb⟩ := Consts.ofBits_eps
  unfold spread
  rw [hb, Consts.ofBits_512, Ideal.div_coe (by norm_num)]
  have h1 : (0 : EReal) ≤ ∑ k, centred x k * centred x k := Finset.sum_nonneg fun k _ => mul_self_nonneg _
  have h2 : (0 : EReal) ≤ ((1 / 512 : ℝ) : EReal) := EReal.coe_nonneg.2 (by norm_num)
  have h3 : (0 : EReal) < (e : EReal) := EReal.coe_pos.2 he
  exact lt_of_lt_of_le h3 (le_add_of_nonneg_left (mul_nonneg h1 h2))

/-- Times the reciprocal root of a positive number is over its root, on every extended real: at a top both are the product
    with 0. -/
theorem mul_rsqrt {v : EReal} (hv : 0 < v) (a : EReal) : a * Ideal.rsqrt v = Ideal.div a (Ideal.sqrt v) := by
  induction v with
  | bot => exact absurd hv (by simp)
  | top => rw [Ideal.rsqrt_top, Ideal.sqrt_top, Ideal.div, if_neg (by simp), EReal.inv_top]
  | coe r =>
    have hr : 0 < r := EReal.coe_pos.1 hv
    rw [Ideal.rsqrt_coe, Ideal.sqrt_coe, if_neg (not_lt.2 hr.le), if_neg hr.ne', if_neg (not_lt.2 hr.le),
      Ideal.div_coe (Real.sqrt_pos.2 hr).ne', one_div]

/-- The row less its mean, times the reciprocal root of the spread, is the normalized row. -/
theorem centred_mul_rsqrt (x : Fin 512 → EReal) (j : Fin 512) : centred x j * Ideal.rsqrt (spread x) = xhat x j :=
  mul_rsqrt (spread_pos x) _

/-! ## The gelu -/

/-- The exact gelu, as the kernel writes it. -/
def gelu (v : EReal) : EReal :=
  Ideal.ofBits .f32 0x3F000000#32 * v * (1 + Ideal.erf (v * (((Real.sqrt 2)⁻¹ : ℝ) : EReal)))

/-- The exact gelu, as the reference writes it: with the complementary error function of the negated argument over the root
    of two. -/
theorem gelu_erfc (v : EReal) :
    Ideal.ofBits .f32 0x3F000000#32 * v * Ideal.erfc (Ideal.div (-v) (Ideal.sqrt (Ideal.ofBits .f32 0x40000000#32))) = gelu v := by
  rw [Consts.ofBits_two, Ideal.sqrt_coe, if_neg (by norm_num),
    Ideal.div_coe (Real.sqrt_pos.2 (by norm_num : (0 : ℝ) < 2)).ne', one_div, EReal.neg_mul, Ideal.erfc_neg, gelu]

/-! ## A dense layer -/

/-- One output of a dense layer: a row of inputs against row `n` of the weights, and the bias. -/
def dense {K N : ℕ} (x : Fin K → EReal) (w : Fin N → Fin K → EReal) (b : Fin N → EReal) (n : Fin N) : EReal :=
  (∑ k, x k * w n k) + b n

/-- One row of the domain logits: three dense layers with a gelu after the first and after the second. -/
def logits (x : Fin 512 → EReal) (w1 : Fin 256 → Fin 512 → EReal) (b1 : Fin 256 → EReal) (w2 : Fin 128 → Fin 256 → EReal)
    (b2 : Fin 128 → EReal) (w3 : Fin 16 → Fin 128 → EReal) (b3 : Fin 16 → EReal) (n : Fin 16) : EReal :=
  dense (fun p => gelu (dense (fun q => gelu (dense x w1 b1 q)) w2 b2 p)) w3 b3 n

/-! ## The choice of a row of the affine parameters -/

/-- The row number a group word names among the 17 rows of parameters: the group itself where it is one of the 16, else row
    16, the default row. -/
def rowOf (g : BitVec 32) : Fin 17 := if h : g.toNat < 16 then ⟨g.toNat, by omega⟩ else 16

/-- Among the 16 rows of group parameters and the default row, the value a group word names. -/
def pick (g : BitVec 32) (w : Fin 16 → EReal) (d : EReal) : EReal := if h : g.toNat < 16 then w ⟨g.toNat, h⟩ else d

end Cert.Model

end
-- ==== Proof.Rows.lean ====
/- UNTRUSTED — the two results as functions of the twelve argument arrays, index by index. Nothing here names a program. -/
module

public import proofs.«01_k».proof.Proof.Model
public import Idealize.ShloMosaic.Lib.Pointwise
public import Idealize.ShloMosaic.PureOps.Vector

@[expose] public section

noncomputable section

namespace Cert.Model

open Idealize.ShloMosaic

/-- Row `a` of the logits, entry `b`. -/
def logitsEntry (x : FVec Ideal ⟨2, ![16384, 512]⟩ .f32) (w1 : FVec Ideal ⟨2, ![256, 512]⟩ .f32) (b1 : FVec Ideal ⟨1, ![256]⟩ .f32)
    (w2 : FVec Ideal ⟨2, ![128, 256]⟩ .f32) (b2 : FVec Ideal ⟨1, ![128]⟩ .f32) (w3 : FVec Ideal ⟨2, ![16, 128]⟩ .f32)
    (b3 : FVec Ideal ⟨1, ![16]⟩ .f32) (a : Fin 16384) (b : Fin 16) : EReal :=
  logits (fun k => x (ix2 a k)) (fun n k => w1 (ix2 n k)) (fun n => b1 (ix1 n)) (fun n k => w2 (ix2 n k)) (fun n => b2 (ix1 n))
    (fun n k => w3 (ix2 n k)) (fun n => b3 (ix1 n)) b

/-- The array of logits. -/
def logitsArray (x : FVec Ideal ⟨2, ![16384, 512]⟩ .f32) (w1 : FVec Ideal ⟨2, ![256, 512]⟩ .f32) (b1 : FVec Ideal ⟨1, ![256]⟩ .f32)
    (w2 : FVec Ideal ⟨2, ![128, 256]⟩ .f32) (b2 : FVec Ideal ⟨1, ![128]⟩ .f32) (w3 : FVec Ideal ⟨2, ![16, 128]⟩ .f32)
    (b3 : FVec Ideal ⟨1, ![16]⟩ .f32) : FVec Ideal ⟨2, ![16384, 16]⟩ .f32 :=
  fun i => logitsEntry x w1 b1 w2 b2 w3 b3 (i 0) (i 1)

/-- The array of logits at an index with coordinates `a`, `b`. -/
theorem logitsEntry_eq {x : FVec Ideal ⟨2, ![16384, 512]⟩ .f32} {w1 : FVec Ideal ⟨2, ![256, 512]⟩ .f32}
    {b1 : FVec Ideal ⟨1, ![256]⟩ .f32} {w2 : FVec Ideal ⟨2, ![128, 256]⟩ .f32} {b2 : FVec Ideal ⟨1, ![128]⟩ .f32}
    {w3 : FVec Ideal ⟨2, ![16, 128]⟩ .f32} {b3 : FVec Ideal ⟨1, ![16]⟩ .f32} {a : Fin 16384} {b : Fin 16}
    {i : (⟨2, ![16384, 16]⟩ : Shape).Idx} (h : i = ix2 a b) :
    logitsEntry x w1 b1 w2 b2 w3 b3 a b = logitsArray x w1 b1 w2 b2 w3 b3 i := by
  rw [h]; rfl

/-- Row `a` of the normalized result, entry `b`: the normalized entry, times the weight its group picks, plus the bias its group
    picks. -/
def normedEntry (x : FVec Ideal ⟨2, ![16384, 512]⟩ .f32) (lw lb : FVec Ideal ⟨2, ![16, 512]⟩ .f32)
    (dw db : FVec Ideal ⟨1, ![512]⟩ .f32) (g : IVec ⟨1, ![16384]⟩ 32) (a : Fin 16384) (b : Fin 512) : EReal :=
  xhat (fun k => x (ix2 a k)) b * pick (g (ix1 a)) (fun r => lw (ix2 r b)) (dw (ix1 b))
    + pick (g (ix1 a)) (fun r => lb (ix2 r b)) (db (ix1 b))

/-- The normalized result. -/
def normedArray (x : FVec Ideal ⟨2, ![16384, 512]⟩ .f32) (lw lb : FVec Ideal ⟨2, ![16, 512]⟩ .f32)
    (dw db : FVec Ideal ⟨1, ![512]⟩ .f32) (g : IVec ⟨1, ![16384]⟩ 32) : FVec Ideal ⟨2, ![16384, 512]⟩ .f32 :=
  fun i => normedEntry x lw lb dw db g (i 0) (i 1)

/-- The normalized result at an index with coordinates `a`, `b`. -/
theorem normedEntry_eq {x : FVec Ideal ⟨2, ![16384, 512]⟩ .f32} {lw lb : FVec Ideal ⟨2, ![16, 512]⟩ .f32}
    {dw db : FVec Ideal ⟨1, ![512]⟩ .f32} {g : IVec ⟨1, ![16384]⟩ 32} {a : Fin 16384} {b : Fin 512}
    {i : (⟨2, ![16384, 512]⟩ : Shape).Idx} (h : i = ix2 a b) :
    normedEntry x lw lb dw db g a b = normedArray x lw lb dw db g i := by
  rw [h]; rfl

end Cert.Model

end
-- ==== Proof.Words.lean ====
/- UNTRUSTED — the group words: which row of parameters a word names on the kernel's side (the word itself inside the 16 groups,
   else 16, then a contraction with the one-hot column of that number) and on the reference's side (a gather at the clipped
   word, kept where the word is inside the 16 groups). Nothing here names a program. -/
module

public import proofs.«01_k».proof.Proof.Model
public import Idealize.ShloMosaic.PureOps.Vector

@[expose] public section

noncomputable section

namespace Cert.Model

open Idealize.ShloMosaic

/-- The test `0 ≤ g < 16` on a word read as signed, as both programs write it. -/
abbrev inGroups (g : BitVec 32) : BitVec 1 := IntOp.andi (IntOp.cmpi .sge g 0#32) (IntOp.cmpi .slt g 16#32)

/-- The test is set exactly on the words of the numbers below 16, a negative word being a large number. -/
theorem inGroups_iff (g : BitVec 32) : inGroups g = 1 ↔ g.toNat < 16 := by
  have bit : ∀ a b : Bool, BitVec.ofBool a &&& BitVec.ofBool b = 1 ↔ a = true ∧ b = true := by decide
  have hg := g.isLt
  show BitVec.ofBool ((0#32).sle g) &&& BitVec.ofBool (g.slt 16#32) = 1 ↔ _
  rw [bit, BitVec.sle_iff_toInt_le, BitVec.slt_iff_toInt_lt, BitVec.toInt_eq_toNat_cond g]
  have h0 : (0#32).toInt = 0 := by decide
  have h16 : (16#32).toInt = 16 := by decide
  rw [h0, h16]
  split <;> omega

/-- The kernel's word: the group inside the 16 groups, else 16, is the number of the row it names. -/
theorem kernel_word (g : BitVec 32) : Scalar.select (inGroups g) g 16#32 = BitVec.ofNat 32 (rowOf g).val := by
  unfold Scalar.select rowOf
  by_cases h : g.toNat < 16
  · rw [if_pos ((inGroups_iff g).2 h), dif_pos h]; simp
  · rw [if_neg (mt (inGroups_iff g).1 h), dif_neg h]; rfl

/-- The reference's index word, the clip of the group to `0 … 15` and the wrap of a negative index, is the group itself where
    that is one of the 16. -/
theorem ref_word (g : BitVec 32) (h : g.toNat < 16) :
    Scalar.select (IntOp.cmpi .slt (IntOp.minsi 15#32 (IntOp.maxsi 0#32 g)) 0#32)
      (IntOp.addi (IntOp.minsi 15#32 (IntOp.maxsi 0#32 g)) 16#32) (IntOp.minsi 15#32 (IntOp.maxsi 0#32 g))
    = BitVec.ofNat 32 g.toNat := by
  have hm : IntOp.maxsi 0#32 g = g ∧ IntOp.minsi 15#32 g = g ∧ IntOp.cmpi .slt g 0#32 = 0#1 := by
    obtain ⟨k, hk, rfl⟩ : ∃ k < 16, g = BitVec.ofNat 32 k := ⟨g.toNat, h, by simp⟩
    revert hk; clear h; revert k; decide
  rw [hm.1, hm.2.1, hm.2.2]
  simp [Scalar.select]

/-- Against the one-hot column of row `r` a contraction over the 17 rows is the value at `r`, whatever the values are: a
    product with 0 is 0, of an infinite value too. -/
theorem oneHot_sum (r : Fin 17) (f : Fin 17 → EReal) :
    ∑ k : Fin 17, (FloatOps.sitofp (F := Ideal) .f32 (BitVec.setWidth 32 (IntOp.cmpi .eq (BitVec.ofNat 32 r.val) (BitVec.ofNat 32 k.val)))
      : EReal) * f k = f r := by
  have one : ∀ k : Fin 17, (BitVec.setWidth 32 (IntOp.cmpi .eq (BitVec.ofNat 32 r.val) (BitVec.ofNat 32 k.val))).toInt
      = if k = r then 1 else 0 := by revert r; clear f; decide
  rw [Finset.sum_eq_single r]
  · show (((BitVec.setWidth 32 _).toInt : ℝ) : EReal) * f r = f r
    rw [one, if_pos rfl]; simp
  · intro k _ hk
    show (((BitVec.setWidth 32 _).toInt : ℝ) : EReal) * f k = 0
    rw [one, if_neg hk]; simp
  · intro h; exact absurd (Finset.mem_univ r) h

/-- The 17 rows of one column: the 16 rows of group parameters, then the default. -/
def column (w : Fin 16 → EReal) (d : EReal) (r : Fin 17) : EReal := if h : r.val < 16 then w ⟨r.val, h⟩ else d

/-- The column at the row a group names is the value the group picks. -/
theorem column_rowOf (g : BitVec 32) (w : Fin 16 → EReal) (d : EReal) : column w d (rowOf g) = pick g w d := by
  unfold column pick rowOf
  by_cases h : g.toNat < 16
  · simp only [dif_pos h]
  · simp only [dif_neg h]; rfl

end Cert.Model

end
-- ==== Proof.Block.lean ====
/- UNTRUSTED — what one grid point of the kernel computes: its two stored payloads, at an index of the block, are the row
   functions of Proof/Model.lean over the block of inputs. -/
module

public import proofs.«01_k».proof.Proof.Words
public import proofs.«01_k».proof.Proof.Gen.KernelIdeal.Skeleton
public import Idealize.ShloMosaic.Lib.Pointwise

@[expose] public section

set_option maxRecDepth 16384

noncomputable section

namespace Cert.KernelIdeal.Block

open Idealize.ShloMosaic Idealize.SL.Sem Cert.KernelIdeal Cert.KernelIdeal.Gen

/-- The kernel's named constant denotes the reciprocal of the root of two. -/
theorem inv_sqrt2 : Named.named (F := Ideal) κ "inv_sqrt2" (φ := .f32) 0x3F3504F3#32 = (((Real.sqrt 2)⁻¹ : ℝ) : EReal) :=
  IdealRules.named_const.ideal_named_scalar _ _ _ _ rfl

/-- The first layer of a block: a dense layer of each of its rows. -/
theorem first_at (x : Vec Ideal S2048x512 .f32) (w : Vec Ideal S256x512 .f32) (b : Vec Ideal S1x256 .f32) (p : Fin 2048) (q : Fin 256) :
    k0_pay3 (F := Ideal) x w b (ix2 p q)
      = Model.dense (fun k => x (ix2 p k)) (fun n k => w (ix2 n k)) (fun n => b (ix2 0 n)) q := by
  pointwise [k0_pay3, Model.dense]

/-- The two layers after it: from the first layer's outputs, a gelu, a dense layer, a gelu, a dense layer. -/
theorem rest_at (h : FVec Ideal S2048x256 .f32) (w2 : Vec Ideal S128x256 .f32) (b2 : Vec Ideal S1x128 .f32)
    (w3 : Vec Ideal S16x128 .f32) (b3 : Vec Ideal S1x16 .f32) (p : Fin 2048) (q : Fin 16) :
    k0_pay1 (F := Ideal) h w2 b2 w3 b3 (ix2 p q)
      = Model.dense (fun n => Model.gelu (Model.dense (fun k => Model.gelu (h (ix2 p k))) (fun n k => w2 (ix2 n k))
          (fun n => b2 (ix2 0 n)) n)) (fun n k => w3 (ix2 n k)) (fun n => b3 (ix2 0 n)) q := by
  pointwise [k0_pay1]
  simp only [inv_sqrt2]
  rfl

/-- The logits a grid point stores, at row `p` of its block: the logits of that row. -/
theorem logits_at (x : Vec Ideal S2048x512 .f32) (w1 : Vec Ideal S256x512 .f32) (b1 : Vec Ideal S1x256 .f32)
    (w2 : Vec Ideal S128x256 .f32) (b2 : Vec Ideal S1x128 .f32) (w3 : Vec Ideal S16x128 .f32) (b3 : Vec Ideal S1x16 .f32)
    (p : Fin 2048) (q : Fin 16) :
    k0_pay1 (F := Ideal) (k0_pay3 x w1 b1) w2 b2 w3 b3 (ix2 p q)
      = Model.logits (fun k => x (ix2 p k)) (fun n k => w1 (ix2 n k)) (fun n => b1 (ix2 0 n)) (fun n k => w2 (ix2 n k))
          (fun n => b2 (ix2 0 n)) (fun n k => w3 (ix2 n k)) (fun n => b3 (ix2 0 n)) q := by
  rw [rest_at]
  simp only [first_at]
  rfl

/-- The normalized rows a grid point stores, at row `p` of its block, whose group word is the number of row `r` of the table:
    the normalized entry, times the table's entry in the left half of row `r`, plus its entry in the right half. -/
theorem normed_at (x : Vec Ideal S2048x512 .f32) (g : Vec Ideal S1x1x2048 .i32) (tab : Vec Ideal S17x1024 .f32)
    (p : Fin 2048) (q : Fin 512) (r : Fin 17) (hg : g (ix3 0 0 p) = BitVec.ofNat 32 r.val) :
    k0_pay2 (F := Ideal) x g tab (ix2 p q)
      = Model.xhat (fun k => x (ix2 p k)) q * tab (ix2 r ⟨q.val, lt_of_lt_of_le q.isLt (by decide)⟩)
        + tab (ix2 r ⟨512 + q.val, Nat.add_lt_add_left q.isLt 512⟩) := by
  pointwise [k0_pay2]
  rw [hg]
  rw [Model.oneHot_sum r fun k => tab (ix2 k ⟨q.val, _⟩), Model.oneHot_sum r fun k => tab (ix2 k ⟨512 + q.val, _⟩)]
  rw [← Model.centred_mul_rsqrt]
  rfl

end Cert.KernelIdeal.Block

end
-- ==== Proof.Operands.lean ====
/- UNTRUSTED — the operands the kernel's own operations before the grid prepare from the arguments, read at an index: the three
   biases as rows, the table of the 17 rows of affine parameters (weights in the left half, biases in the right), and the group
   words cut into the blocks of the grid points. -/
module

public import proofs.«01_k».proof.Proof.Words
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.KernelIdeal.Operands

open Idealize.ShloMosaic Idealize.ShloMosaic.TcCoe Idealize.SL.Sem Cert.KernelIdeal Cert.KernelIdeal.Gen

variable (m : (ℓ : Loc nD τ sig) → Buf (Elt Ideal) ℓ) (c : Dev nD)

/-- The first layer's bias as a row. -/
theorem bias1_at (n : Fin 256) : V m c main_call0_v12 (ix2 0 n) = m ((c : Thread nD τ).loc main_arg2) (ix1 n) := by
  entry_read
  pointwise

/-- The second layer's bias as a row. -/
theorem bias2_at (n : Fin 128) : V m c main_call0_v13 (ix2 0 n) = m ((c : Thread nD τ).loc main_arg4) (ix1 n) := by
  entry_read
  pointwise

/-- The third layer's bias as a row. -/
theorem bias3_at (n : Fin 16) : V m c main_call0_v14 (ix2 0 n) = m ((c : Thread nD τ).loc main_arg6) (ix1 n) := by
  entry_read
  pointwise

/-- The left half of the table: the weight of row `r` in column `q`. -/
theorem weight_at (r : Fin 17) (q : Fin 512) :
    V m c main_call0_v11 (ix2 r ⟨q.val, lt_of_lt_of_le q.isLt (by decide)⟩)
      = Model.column (fun s => m ((c : Thread nD τ).loc main_arg7) (ix2 s q)) (m ((c : Thread nD τ).loc main_arg9) (ix1 q)) r := by
  unfold V Model.column
  after_reads_at
  after_reads_at
  after_reads_at

/-- The right half of the table: the bias of row `r` in column `q`. -/
theorem shift_at (r : Fin 17) (q : Fin 512) :
    V m c main_call0_v11 (ix2 r ⟨512 + q.val, Nat.add_lt_add_left q.isLt 512⟩)
      = Model.column (fun s => m ((c : Thread nD τ).loc main_arg8) (ix2 s q)) (m ((c : Thread nD τ).loc main_arg10) (ix1 q)) r := by
  unfold V Model.column
  after_reads_at
  after_reads_at
  after_reads_at

/-- The group word of position `p` of block `t` is the number of the row that the group of row `2048 t + p` names. -/
theorem group_at (t : Fin 8) (p : Fin 2048) (a : Fin 16384) (ha : a.val = 2048 * t.val + p.val) :
    V m c main_call0_v6 (ix3 t 0 p)
      = BitVec.ofNat 32 (Model.rowOf (m ((c : Thread nD τ).loc main_arg11) (ix1 a))).val := by
  rw [← Model.kernel_word]
  unfold V
  after_reads_at
  have e : a = ⟨t.val * 2048 + p.val, by have := t.isLt; have := p.isLt; omega⟩ := Fin.ext (by rw [ha, Nat.mul_comm])
  rw [e]
  rfl

end Cert.KernelIdeal.Operands

end
-- ==== Proof.Arrays.lean ====
/- UNTRUSTED — what the kernel's two result arrays hold after the run: the arrays of Proof/Rows.lean of the arguments. -/
module

public import proofs.«01_k».proof.Proof.Rows
public import proofs.«01_k».proof.Proof.Block
public import proofs.«01_k».proof.Proof.Operands
public import proofs.«01_k».proof.Proof.Gen.KernelIdeal.Frame
public import Idealize.ShloMosaic.Lib.Pipeline.ValueKit

@[expose] public section

set_option maxRecDepth 16384

noncomputable section

namespace Cert.KernelIdeal.Arrays

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- Which block of each array a grid point works on: the rows' blocks advance with the point, the parameters are one block. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0, 0] ∧ win0_9.index t = ![t.val, 0] ∧ win0_10.index t = ![t.val, 0]
    ∧ t.val < 8 :=
  (by decide +kernel : ∀ t : Fin grid0.N, _)

/-- Position `p` of block `t` is row `2048 t + p`. -/
def row (t : Fin cfg0.N) (p : Fin 2048) : Fin 16384 :=
  ⟨2048 * t.val + p.val, by have := (idx t).2.2.2.2.2.2.2.2.2.2.2; have := p.isLt; omega⟩

/-- The block of input rows. -/
theorem x_at (t : Fin cfg0.N) (p : Fin 2048) (k : Fin 512) :
    (show Vec Ideal S2048x512 .f32 from iblk m c 0 t) (ix2 p k) = m ((c : Thread nD τ).loc main_arg0) (ix2 (row t p) k) := by
  unfold row
  blk_ext [iblk, V, idx t]

/-- The first layer's weights, at every point. -/
theorem w1_at (t : Fin cfg0.N) (n : Fin 256) (k : Fin 512) :
    (show Vec Ideal S256x512 .f32 from iblk m c 1 t) (ix2 n k) = m ((c : Thread nD τ).loc main_arg1) (ix2 n k) := by
  blk_ext [iblk, V, idx t]

/-- The first layer's bias, at every point. -/
theorem b1_at (t : Fin cfg0.N) (n : Fin 256) :
    (show Vec Ideal S1x256 .f32 from iblk m c 2 t) (ix2 0 n) = m ((c : Thread nD τ).loc main_arg2) (ix1 n) := by
  refine Eq.trans ?_ (Operands.bias1_at m c n)
  blk_ext [iblk, idx t]

/-- The second layer's weights, at every point. -/
theorem w2_at (t : Fin cfg0.N) (n : Fin 128) (k : Fin 256) :
    (show Vec Ideal S128x256 .f32 from iblk m c 3 t) (ix2 n k) = m ((c : Thread nD τ).loc main_arg3) (ix2 n k) := by
  blk_ext [iblk, V, idx t]

/-- The second layer's bias, at every point. -/
theorem b2_at (t : Fin cfg0.N) (n : Fin 128) :
    (show Vec Ideal S1x128 .f32 from iblk m c 4 t) (ix2 0 n) = m ((c : Thread nD τ).loc main_arg4) (ix1 n) := by
  refine Eq.trans ?_ (Operands.bias2_at m c n)
  blk_ext [iblk, idx t]

/-- The third layer's weights, at every point. -/
theorem w3_at (t : Fin cfg0.N) (n : Fin 16) (k : Fin 128) :
    (show Vec Ideal S16x128 .f32 from iblk m c 5 t) (ix2 n k) = m ((c : Thread nD τ).loc main_arg5) (ix2 n k) := by
  blk_ext [iblk, V, idx t]

/-- The third layer's bias, at every point. -/
theorem b3_at (t : Fin cfg0.N) (n : Fin 16) :
    (show Vec Ideal S1x16 .f32 from iblk m c 6 t) (ix2 0 n) = m ((c : Thread nD τ).loc main_arg6) (ix1 n) := by
  refine Eq.trans ?_ (Operands.bias3_at m c n)
  blk_ext [iblk, idx t]

/-- The left half of the table, at every point. -/
theorem weight_at (t : Fin cfg0.N) (r : Fin 17) (q : Fin 512) :
    (show Vec Ideal S17x1024 .f32 from iblk m c 7 t) (ix2 r ⟨q.val, lt_of_lt_of_le q.isLt (by decide)⟩)
      = Model.column (fun s => m ((c : Thread nD τ).loc main_arg7) (ix2 s q)) (m ((c : Thread nD τ).loc main_arg9) (ix1 q)) r := by
  refine Eq.trans ?_ (Operands.weight_at m c r q)
  blk_ext [iblk, idx t]

/-- The right half of the table, at every point. -/
theorem shift_at (t : Fin cfg0.N) (r : Fin 17) (q : Fin 512) :
    (show Vec Ideal S17x1024 .f32 from iblk m c 7 t) (ix2 r ⟨512 + q.val, Nat.add_lt_add_left q.isLt 512⟩)
      = Model.column (fun s => m ((c : Thread nD τ).loc main_arg8) (ix2 s q)) (m ((c : Thread nD τ).loc main_arg10) (ix1 q)) r := by
  refine Eq.trans ?_ (Operands.shift_at m c r q)
  blk_ext [iblk, idx t]

/-- The group words of point `t`. -/
theorem group_at (t : Fin cfg0.N) (p : Fin 2048) :
    (show Vec Ideal S1x1x2048 .i32 from iblk m c 8 t) (ix3 0 0 p)
      = BitVec.ofNat 32 (Model.rowOf (m ((c : Thread nD τ).loc main_arg11) (ix1 (row t p)))).val := by
  refine Eq.trans ?_ (Operands.group_at m c ⟨t.val, (idx t).2.2.2.2.2.2.2.2.2.2.2⟩ p (row t p) rfl)
  blk_ext [iblk, idx t]

/-- What point `t` stores of the normalized rows. -/
theorem normed_point (t : Fin cfg0.N) (p : Fin 2048) (q : Fin 512) :
    k0_pay2 (F := Ideal) (iblk m c 0 t) (iblk m c 8 t) (iblk m c 7 t) (ix2 p q)
      = Model.normedEntry (m ((c : Thread nD τ).loc main_arg0)) (m ((c : Thread nD τ).loc main_arg7))
          (m ((c : Thread nD τ).loc main_arg8)) (m ((c : Thread nD τ).loc main_arg9)) (m ((c : Thread nD τ).loc main_arg10))
          (m ((c : Thread nD τ).loc main_arg11)) (row t p) q := by
  refine (Block.normed_at _ _ _ p q _ (group_at m c t p)).trans ?_
  unfold Model.normedEntry
  rw [← Model.column_rowOf, ← Model.column_rowOf]
  exact congrArg₂ (· + ·) (congrArg₂ (· * ·) (congrArg (fun f => Model.xhat f q) (funext fun k => x_at m c t p k))
    (weight_at m c t _ q)) (shift_at m c t _ q)

/-- What point `t` stores of the logits. -/
theorem logits_point (t : Fin cfg0.N) (p : Fin 2048) (q : Fin 16) :
    k0_pay1 (F := Ideal) (k0_pay3 (iblk m c 0 t) (iblk m c 1 t) (iblk m c 2 t)) (iblk m c 3 t) (iblk m c 4 t) (iblk m c 5 t)
        (iblk m c 6 t) (ix2 p q)
      = Model.logitsEntry (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (row t p) q := by
  refine (Block.logits_at _ _ _ _ _ _ _ p q).trans ?_
  unfold Model.logitsEntry
  congr 1
  · funext k; exact x_at m c t p k
  · funext n k; exact w1_at m c t n k
  · funext n; exact b1_at m c t n
  · funext n k; exact w2_at m c t n k
  · funext n; exact b2_at m c t n
  · funext n k; exact w3_at m c t n k
  · funext n; exact b3_at m c t n

/-- The kernel's first result array after the run is the normalized result of the arguments. -/
theorem normed_final : (dats m 0 c).arrAt 9 cfg0.N
    = Model.normedArray (m ((c : Thread nD τ).loc main_arg0)) (m ((c : Thread nD τ).loc main_arg7))
        (m ((c : Thread nD τ).loc main_arg8)) (m ((c : Thread nD τ).loc main_arg9)) (m ((c : Thread nD τ).loc main_arg10))
        (m ((c : Thread nD τ).loc main_arg11)) := by
  refine (dats m 0 c).arrAt_eq_of_covers 9 _ (by decide +kernel) fun t _ y => ?_
  blk_simp
  rw [after0_9]
  frame_out
  obtain ⟨p, q, rfl⟩ : ∃ (p : Fin 2048) (q : Fin 512), y = ix2 p q := ⟨y 0, y 1, eq_ix2 y⟩
  refine (normed_point m c t p q).trans (Model.normedEntry_eq ?_)
  unfold row
  blk_ext [idx t]

/-- The kernel's second result array after the run is the array of logits of the arguments. -/
theorem logits_final : (dats m 0 c).arrAt 10 cfg0.N
    = Model.logitsArray (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 10 _ (by decide +kernel) fun t _ y => ?_
  blk_simp
  rw [after0_10]
  frame_out
  obtain ⟨p, q, rfl⟩ : ∃ (p : Fin 2048) (q : Fin 16), y = ix2 p q := ⟨y 0, y 1, eq_ix2 y⟩
  refine (logits_point m c t p q).trans (Model.logitsEntry_eq ?_)
  unfold row
  blk_ext [idx t]

end Cert.KernelIdeal.Arrays

end
-- ==== Proof.Reference.lean ====
/- UNTRUSTED — what the reference's two results are at `Ideal`: the arrays of Proof/Rows.lean of the arguments. -/
module

public import proofs.«01_k».proof.Proof.Rows
public import proofs.«01_k».proof.Proof.Words
public import proofs.«01_k».proof.Proof.Gen.ReferenceIdeal.Read
public import Idealize.ShloMosaic.Lib.Pointwise
public import Idealize.ShloMosaic.Lib.Routing.Ops

@[expose] public section

set_option maxRecDepth 16384

noncomputable section

namespace Cert.ReferenceIdeal.RefValue

open Idealize.ShloMosaic Idealize.ShloMosaic.TcCoe Idealize.SL.Sem Cert.ReferenceIdeal Cert.ReferenceIdeal.Gen Cert.ReferenceIdeal.Read

/-! ## The logits -/

section Logits

variable (x : FVec Ideal S16384x512 .f32) (w1 : FVec Ideal S256x512 .f32) (b1 : FVec Ideal S256 .f32) (w2 : FVec Ideal S128x256 .f32)
  (b2 : FVec Ideal S128 .f32) (w3 : FVec Ideal S16x128 .f32) (b3 : FVec Ideal S16 .f32) (a : Fin 16384)

/-- The first layer, row by row. -/
theorem first_at (q : Fin 256) : val_main_v4 (F := Ideal) x w1 b1 (ix2 a q)
    = Model.dense (fun k => x (ix2 a k)) (fun n k => w1 (ix2 n k)) (fun n => b1 (ix1 n)) q := by
  pointwise [val_main_v4, val_main_v3, val_main_v2, val_main_v1, val_main_v0, Model.dense]

/-- The gelu after it. -/
theorem gelu1_at (q : Fin 256) : val_main_v12 (F := Ideal) x w1 b1 (ix2 a q)
    = Model.gelu (val_main_v4 (F := Ideal) x w1 b1 (ix2 a q)) := by
  refine Eq.trans ?_ (Model.gelu_erfc _)
  pointwise [val_main_v12, val_main_v11, val_main_v10, val_main_v9, val_main_v8, val_main_cst_0, val_main_v7, val_main_v6,
    val_main_v5, val_main_cst]

/-- The second layer, row by row. -/
theorem second_at (q : Fin 128) : val_main_v17 (F := Ideal) x w1 b1 w2 b2 (ix2 a q)
    = Model.dense (fun k => val_main_v12 (F := Ideal) x w1 b1 (ix2 a k)) (fun n k => w2 (ix2 n k)) (fun n => b2 (ix1 n)) q := by
  pointwise [val_main_v17, val_main_v16, val_main_v15, val_main_v14, val_main_v13, Model.dense]

/-- The gelu after it. -/
theorem gelu2_at (q : Fin 128) : val_main_v25 (F := Ideal) x w1 b1 w2 b2 (ix2 a q)
    = Model.gelu (val_main_v17 (F := Ideal) x w1 b1 w2 b2 (ix2 a q)) := by
  refine Eq.trans ?_ (Model.gelu_erfc _)
  pointwise [val_main_v25, val_main_v24, val_main_v23, val_main_v22, val_main_v21, val_main_cst_2, val_main_v20, val_main_v19,
    val_main_v18, val_main_cst_1]

/-- The third layer, row by row. -/
theorem third_at (q : Fin 16) : val_main_v30 (F := Ideal) x w1 b1 w2 b2 w3 b3 (ix2 a q)
    = Model.dense (fun k => val_main_v25 (F := Ideal) x w1 b1 w2 b2 (ix2 a k)) (fun n k => w3 (ix2 n k)) (fun n => b3 (ix1 n)) q := by
  pointwise [val_main_v30, val_main_v29, val_main_v28, val_main_v27, val_main_v26, Model.dense]

end Logits

/-- The reference's second result is the array of logits. -/
theorem logits_eq (x : FVec Ideal S16384x512 .f32) (w1 : FVec Ideal S256x512 .f32) (b1 : FVec Ideal S256 .f32)
    (w2 : FVec Ideal S128x256 .f32) (b2 : FVec Ideal S128 .f32) (w3 : FVec Ideal S16x128 .f32) (b3 : FVec Ideal S16 .f32) :
    val_main_v30 (F := Ideal) x w1 b1 w2 b2 w3 b3 = Model.logitsArray x w1 b1 w2 b2 w3 b3 := by
  funext i
  obtain ⟨a, b, rfl⟩ : ∃ (a : Fin 16384) (b : Fin 16), i = ix2 a b := ⟨i 0, i 1, eq_ix2 i⟩
  refine Eq.trans ?_ (Model.logitsEntry_eq rfl)
  rw [third_at]
  simp only [gelu2_at, second_at, gelu1_at, first_at]
  rfl

/-! ## The normalized rows -/

/-- The mean of a row. -/
theorem mean_at (x : FVec Ideal S16384x512 .f32) (a : Fin 16384) (z : Fin 1) : val_main_v34 (F := Ideal) x (ix2 a z)
    = Model.mean fun k => x (ix2 a k) := by
  pointwise [val_main_v34, val_main_v33, val_main_cst_4, val_main_v32, val_main_v31, val_main_cst_3, Model.mean]

/-- The spread of a row. -/
theorem spread_at (x : FVec Ideal S16384x512 .f32) (a : Fin 16384) (z : Fin 1) : val_main_v45 (F := Ideal) x (ix2 a z)
    = Model.spread fun k => x (ix2 a k) := by
  pointwise [val_main_v45, val_main_v44, val_main_cst_7, val_main_v41, val_main_v40, val_main_cst_6, val_main_v39, val_main_v38,
    val_main_cst_5, val_main_v37, val_main_v36, val_main_v35, Model.spread, Model.centred]
  simp only [mean_at]

/-- The normalized row. -/
theorem xhat_at (x : FVec Ideal S16384x512 .f32) (a : Fin 16384) (b : Fin 512) : val_main_v48 (F := Ideal) x (ix2 a b)
    = Model.xhat (fun k => x (ix2 a k)) b := by
  pointwise [val_main_v48, val_main_v47, val_main_v46, val_main_v43, val_main_v42, Model.xhat, Model.centred]
  simp only [mean_at, spread_at]

/-- Where the group is one of the 16, the index column of the weights holds its number. -/
theorem index_at (g : IVec S16384 32) (a : Fin 16384) (h : (g (ix1 a)).toNat < 16) :
    val_main_v61 (F := Ideal) g (ix2 a 0) = BitVec.ofNat 32 (g (ix1 a)).toNat := by
  refine Eq.trans ?_ (Model.ref_word _ h)
  pointwise [val_main_v61, val_main_v60, val_main_v59, val_main_v58, val_main_c_12, val_main_v57, val_main_v56, val_main_c_11,
    val_main_v54, val_main_call0_v4, val_main_call0_v3, val_main_c_10, val_main_call0_v2, val_main_call0_v1, val_main_call0_v0,
    val_main_c_9]
  rfl

/-- The index column of the biases is that of the weights. -/
theorem index_eq (g : IVec S16384 32) : val_main_v71 (F := Ideal) g = val_main_v61 (F := Ideal) g := rfl

/-- A gather of rows at the index column, where the group is one of the 16, is the row of that number. -/
theorem gather_at (w : FVec Ideal S16x512 .f32) (g : IVec S16384 32) (a : Fin 16384) (b : Fin 512) (h : (g (ix1 a)).toNat < 16) :
    Host.gather gather_S16x512_S16384x1_S16384x512_1_0_n_n_0_1_1512 w (val_main_v61 (F := Ideal) g) (ix2 a b)
      = w (ix2 ⟨(g (ix1 a)).toNat, h⟩ b) :=
  Routing.gather_row _ rfl rfl rfl rfl rfl w _ a b ⟨(g (ix1 a)).toNat, h⟩ (index_at g a h) (by norm_num)

/-- A row kept where the group is one of the 16, the default elsewhere, is what the group picks. -/
theorem select_pick (w : FVec Ideal S16x512 .f32) (d : EReal) (g : IVec S16384 32) (a : Fin 16384) (b : Fin 512) :
    Scalar.select (Model.inGroups (g (ix1 a)))
        (Host.gather gather_S16x512_S16384x1_S16384x512_1_0_n_n_0_1_1512 w (val_main_v61 (F := Ideal) g) (ix2 a b) : EReal) d
      = Model.pick (g (ix1 a)) (fun r => w (ix2 r b)) d := by
  unfold Scalar.select Model.pick
  by_cases h : (g (ix1 a)).toNat < 16
  · rw [if_pos ((Model.inGroups_iff _).2 h), dif_pos h, gather_at w g a b h]
  · rw [if_neg (mt (Model.inGroups_iff _).1 h), dif_neg h]

/-- The weight of a row, read at a column. -/
theorem weight_at (lw : FVec Ideal S16x512 .f32) (dw : FVec Ideal S512 .f32) (g : IVec S16384 32) (a : Fin 16384) (b : Fin 512) :
    val_main_v64 (F := Ideal) lw dw g (ix2 a b) = Model.pick (g (ix1 a)) (fun r => lw (ix2 r b)) (dw (ix1 b)) := by
  rw [← select_pick]
  pointwise [val_main_v64, val_main_call1_v0, val_main_v55, val_main_v53, val_main_v52, val_main_v51, val_main_c_8, val_main_v50,
    val_main_v49, val_main_c, val_main_call1_v1, val_main_v63, val_main_v62]

/-- The bias of a row, read at a column. -/
theorem shift_at (lb : FVec Ideal S16x512 .f32) (db : FVec Ideal S512 .f32) (g : IVec S16384 32) (a : Fin 16384) (b : Fin 512) :
    val_main_v74 (F := Ideal) lb db g (ix2 a b) = Model.pick (g (ix1 a)) (fun r => lb (ix2 r b)) (db (ix1 b)) := by
  rw [← select_pick, ← index_eq]
  pointwise [val_main_v74, val_main_call2_v0, val_main_v65, val_main_v53, val_main_v52, val_main_v51, val_main_c_8, val_main_v50,
    val_main_v49, val_main_c, val_main_call2_v1, val_main_v73, val_main_v72]

/-- The reference's first result is the normalized result. -/
theorem normed_eq (x : FVec Ideal S16384x512 .f32) (lw lb : FVec Ideal S16x512 .f32) (dw db : FVec Ideal S512 .f32) (g : IVec S16384 32) :
    val_main_v76 (F := Ideal) x lw lb dw db g = Model.normedArray x lw lb dw db g := by
  funext i
  obtain ⟨a, b, rfl⟩ : ∃ (a : Fin 16384) (b : Fin 512), i = ix2 a b := ⟨i 0, i 1, eq_ix2 i⟩
  refine Eq.trans ?_ (Model.normedEntry_eq rfl)
  pointwise [val_main_v76, val_main_v75, Model.normedEntry]
  simp only [xhat_at, weight_at, shift_at]

end Cert.ReferenceIdeal.RefValue

end
-- ==== Proof.Claims.lean ====
/- UNTRUSTED — the five claims, each a theorem: the three programs run and keep their arguments, the one named constant denotes
   its value, and at `Ideal` the kernel and the reference end with the same two arrays. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Arrays
public import proofs.«01_k».proof.Proof.Reference
public import Idealize.ShloMosaic.Lib.Quiescent

@[expose] public section

noncomputable section

namespace Cert.Proof

open Idealize.ShloMosaic Idealize.ShloMosaic.TcCoe Idealize.SL.Sem

/-- The kernel runs from any memory, keeps its arguments, and leaves no semaphore raised. -/
theorem frame_kernel : Cert.quiescent_Kernel := fun m ρ _ => Cert.Kernel.Gen.frame m ρ

/-- So does the kernel with its constant named. -/
theorem frame_kernelIdeal : Cert.quiescent_KernelIdeal := fun m ρ _ => Cert.KernelIdeal.Gen.frame m ρ

/-- So does the reference. -/
theorem frame_referenceIdeal : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The table gives the named constant the reciprocal of the root of two, and the printed constant is that value. -/
theorem preserves : Cert.preserves_Kernel_KernelIdeal :=
  IdealRules.named_const.statement Cert.KernelIdeal.κ "inv_sqrt2" .f32 0x3F3504F3#32 (((Real.sqrt 2)⁻¹ : ℝ) : EReal) rfl

/-- At `Ideal` the kernel's two result arrays and the reference's two results are the same functions of the arguments. -/
theorem algebraic : Cert.algebraic_KernelIdeal_ReferenceIdeal := by
  intro m ρ m' ρ' _ hagree
  refine ⟨_, _, Cert.KernelIdeal.Value.run_blocks (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, -, -, -, -, -, -, h7, h8, h9, h10, h11⟩ := hagree c
    rw [Cert.ReferenceIdeal.Read.val_main_v76_eq, h0, h7, h8, h9, h10, h11]
    exact (Cert.ReferenceIdeal.RefValue.normed_eq _ _ _ _ _ _).trans (Cert.KernelIdeal.Arrays.normed_final m c).symm
  · obtain ⟨h0, h1, h2, h3, h4, h5, h6, -⟩ := hagree c
    rw [h0, h1, h2, h3, h4, h5, h6]
    exact (Cert.ReferenceIdeal.Read.val_main_v30_eq _ _ _ _ _ _ _).trans
      ((Cert.ReferenceIdeal.RefValue.logits_eq _ _ _ _ _ _ _).trans (Cert.KernelIdeal.Arrays.logits_final m c).symm)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

/-- Every claim of the certificate. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
